-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_classes_and_finite_tops [hPre_classes_and_finite_tops : Cert.Pre_classes_and_finite_tops.Facts] (m : (ℓ : Loc Cert.KernelIdeal.nD Cert.KernelIdeal.τ Cert.KernelIdeal.sig) → Buf (Elt Ideal) ℓ) : Prop :=
  ∀ c : Dev Cert.KernelIdeal.nD,
    (Cert.Pre_classes_and_finite_tops.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_classes_and_finite_tops [hPre_classes_and_finite_tops : Cert.Pre_classes_and_finite_tops.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_classes_and_finite_tops.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_classes_and_finite_tops [hKernelIdeal : Cert.KernelIdeal.Facts] [hPre_classes_and_finite_tops : Cert.Pre_classes_and_finite_tops.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_classes_and_finite_tops m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_classes_and_finite_tops [hReferenceIdeal : Cert.ReferenceIdeal.Facts] [hPre_classes_and_finite_tops : Cert.Pre_classes_and_finite_tops.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_classes_and_finite_tops m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_classes_and_finite_tops [hKernelIdeal : Cert.KernelIdeal.Facts] [hReferenceIdeal : Cert.ReferenceIdeal.Facts] [hPre_classes_and_finite_tops : Cert.Pre_classes_and_finite_tops.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_classes_and_finite_tops m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_classes_and_finite_tops : Cert.Pre_classes_and_finite_tops.Facts),
    quiescent_Kernel (hKernel := hKernel)
    ∧ quiescent_KernelIdeal (hKernelIdeal := hKernelIdeal)
    ∧ quiescent_KernelIdeal_pre_classes_and_finite_tops (hKernelIdeal := hKernelIdeal) (hPre_classes_and_finite_tops := hPre_classes_and_finite_tops)
    ∧ quiescent_ReferenceIdeal (hReferenceIdeal := hReferenceIdeal)
    ∧ quiescent_ReferenceIdeal_pre_classes_and_finite_tops (hReferenceIdeal := hReferenceIdeal) (hPre_classes_and_finite_tops := hPre_classes_and_finite_tops)
    ∧ preserves_Kernel_KernelIdeal
    ∧ algebraic_KernelIdeal_ReferenceIdeal_pre_classes_and_finite_tops (hKernelIdeal := hKernelIdeal) (hReferenceIdeal := hReferenceIdeal) (hPre_classes_and_finite_tops := hPre_classes_and_finite_tops)
-- ==== Pre_classes_and_finite_tops.lean ====
abbrev S16384x1000 : Shape := ⟨2, ![16384, 1000]⟩
abbrev S16384 : Shape := ⟨1, ![16384]⟩
abbrev S_ : Shape := ⟨0, ![]⟩

class Facts : Prop where
  reducesTo_S16384x1000_S16384_d1 : S16384x1000.ReducesTo [1] S16384
  h_S_ : 0 < S_.numel
  bcast_S_S16384 : S_.BroadcastsInDim S16384 (![] : Fin 0 → Fin S16384.rank)

variable [Facts]

def fn {F : FTy → Type} [FloatOps F] (main_arg0 : FVec F S16384x1000 .f32) (main_arg1 : IVec S16384 32) : IVec S16384 1 :=
  let main_cst : FVec F S_ .f32 := constant S_ .f32 0xFF800000#32
  let main_v0 : FVec F S16384 .f32 := (fun x v => Host.reduce FloatOps.maximumf x v reducesTo_S16384x1000_S16384_d1 h_S_) main_arg0 main_cst
  let main_c : IVec S_ 32 := constantI S_ 32 0#32
  let main_v1 : IVec S16384 32 := broadcastInDim S16384 ![] bcast_S_S16384 main_c
  let main_v2 : IVec S16384 1 := cmpi .sge main_arg1 main_v1
  let main_c_0 : IVec S_ 32 := constantI S_ 32 1000#32
  let main_v3 : IVec S16384 32 := broadcastInDim S16384 ![] bcast_S_S16384 main_c_0
  let main_v4 : IVec S16384 1 := cmpi .slt main_arg1 main_v3
  let main_v5 : IVec S16384 1 := andi main_v2 main_v4
  let main_cst_1 : FVec F S_ .f32 := constant S_ .f32 0xFF800000#32
  let main_v6 : FVec F S16384 .f32 := broadcastInDim S16384 ![] bcast_S_S16384 main_cst_1
  let main_v7 : IVec S16384 1 := cmpf .ogt main_v0 main_v6
  let main_v8 : IVec S16384 1 := andi main_v5 main_v7
  let main_cst_2 : FVec F S_ .f32 := constant S_ .f32 0x7F800000#32
  let main_v9 : FVec F S16384 .f32 := broadcastInDim S16384 ![] bcast_S_S16384 main_cst_2
  let main_v10 : IVec S16384 1 := cmpf .olt main_v0 main_v9
  let main_v11 : IVec S16384 1 := andi main_v8 main_v10
  main_v11
-- ==== Kernel.lean ====
abbrev S16384x1000 : Shape := ⟨2, ![16384, 1000]⟩
abbrev S16384 : Shape := ⟨1, ![16384]⟩
abbrev S32x1x512 : Shape := ⟨3, ![32, 1, 512]⟩
abbrev S1x128 : Shape := ⟨2, ![1, 128]⟩
abbrev S512x1000 : Shape := ⟨2, ![512, 1000]⟩
abbrev S1x1x512 : Shape := ⟨3, ![1, 1, 512]⟩
abbrev S512 : Shape := ⟨1, ![512]⟩
abbrev S512x1 : Shape := ⟨2, ![512, 1]⟩
abbrev S1x512 : Shape := ⟨2, ![1, 512]⟩
abbrev S1 : Shape := ⟨1, ![1]⟩
abbrev S1x1 : Shape := ⟨2, ![1, 1]⟩
abbrev S_ : Shape := ⟨0, ![]⟩

abbrev nBuf : Space → Nat
  | .hbm => 10
  | .vmem => 33
  | .smem => 0
  | _ => 0

abbrev bufTy : (tb : Table) → Fin (tcTables nBuf tb) → BufTy
  | .hbm, ⟨0, _⟩ => ⟨S16384x1000, .f32⟩
  | .hbm, ⟨1, _⟩ => ⟨S16384, .i32⟩
  | .hbm, ⟨2, _⟩ => ⟨S32x1x512, .i32⟩
  | .hbm, ⟨3, _⟩ => ⟨S1x128, .f32⟩
  | .hbm, ⟨4, _⟩ => ⟨S1x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S512x1000, .f32⟩
  | .local _ .vmem, ⟨1, _⟩ => ⟨S512x1000, .f32⟩
  | .local _ .vmem, ⟨2, _⟩ => ⟨S512x1000, .f32⟩
  | .local _ .vmem, ⟨3, _⟩ => ⟨S512x1000, .f32⟩
  | .local _ .vmem, ⟨4, _⟩ => ⟨S512x1000, .f32⟩
  | .local _ .vmem, ⟨5, _⟩ => ⟨S512x1000, .f32⟩
  | .local _ .vmem, ⟨6, _⟩ => ⟨S512x1000, .f32⟩
  | .local _ .vmem, ⟨7, _⟩ => ⟨S512x1000, .f32⟩
  | .local _ .vmem, ⟨8, _⟩ => ⟨S512x1000, .f32⟩
  | .local _ .vmem, ⟨9, _⟩ => ⟨S512x1000, .f32⟩
  | .local _ .vmem, ⟨10, _⟩ => ⟨S512x1000, .f32⟩
  | .local _ .vmem, ⟨11, _⟩ => ⟨S512x1000, .f32⟩
  | .local _ .vmem, ⟨12, _⟩ => ⟨S512x1000, .f32⟩
  | .local _ .vmem, ⟨13, _⟩ => ⟨S512x1000, .f32⟩
  | .local _ .vmem, ⟨14, _⟩ => ⟨S512x1000, .f32⟩
  | .local _ .vmem, ⟨15, _⟩ => ⟨S512x1000, .f32⟩
  | .local _ .vmem, ⟨16, _⟩ => ⟨S1x1x512, .i32⟩
  | .local _ .vmem, ⟨17, _⟩ => ⟨S1x1x512, .i32⟩
  | .local _ .vmem, ⟨18, _⟩ => ⟨S1x1x512, .i32⟩
  | .local _ .vmem, ⟨19, _⟩ => ⟨S1x1x512, .i32⟩
  | .local _ .vmem, ⟨20, _⟩ => ⟨S1x1x512, .i32⟩
  | .local _ .vmem, ⟨21, _⟩ => ⟨S1x1x512, .i32⟩
  | .local _ .vmem, ⟨22, _⟩ => ⟨S1x1x512, .i32⟩
  | .local _ .vmem, ⟨23, _⟩ => ⟨S1x1x512, .i32⟩
  | .local _ .vmem, ⟨24, _⟩ => ⟨S1x1x512, .i32⟩
  | .local _ .vmem, ⟨25, _⟩ => ⟨S1x1x512, .i32⟩
  | .local _ .vmem, ⟨26, _⟩ => ⟨S1x1x512, .i32⟩
  | .local _ .vmem, ⟨27, _⟩ => ⟨S1x1x512, .i32⟩
  | .local _ .vmem, ⟨28, _⟩ => ⟨S1x1x512, .i32⟩
  | .local _ .vmem, ⟨29, _⟩ => ⟨S1x1x512, .i32⟩
  | .local _ .vmem, ⟨30, _⟩ => ⟨S1x1x512, .i32⟩
  | .local _ .vmem, ⟨31, _⟩ => ⟨S1x1x512, .i32⟩
  | .local _ .vmem, ⟨32, _⟩ => ⟨S1x128, .f32⟩
  | _, _ => ⟨S16384x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c12_i32 : BitVec 32 := 12#32
  let v0 : BitVec 32 := Scalar.addi arg0 c12_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c20_i32 : BitVec 32 := 20#32
  let v0 : BitVec 32 := Scalar.addi arg0 c20_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c24_i32 : BitVec 32 := 24#32
  let v0 : BitVec 32 := Scalar.addi arg0 c24_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c28_i32 : BitVec 32 := 28#32
  let v0 : BitVec 32 := Scalar.addi arg0 c28_i32
  let c0_i32 : BitVec 32 := 0#32
  let c0_i32_0 : BitVec 32 := 0#32
  ![v0.toNat, c0_i32.toNat]

def cc0_transform_8 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![v0.toNat, c0_i32_0.toNat, c0_i32_1.toNat]

def cc0_transform_9 (i : grid0.Coords) : Fin 3 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  ![v0.toNat, c0_i32.toNat, c0_i32_0.toNat]

def cc0_transform_10 (i : grid0.Coords) : Fin 3 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  let c0_i32_1 : BitVec 32 := 0#32
  ![v0.toNat, c0_i32.toNat, c0_i32_0.toNat]

def cc0_transform_11 (i : grid0.Coords) : Fin 3 → Nat :=
  let arg0 : BitVec 32 := BitVec.ofNat 32 (i 0).val
  let c12_i32 : BitVec 32 := 12#32
  let v0 : BitVec 32 := Scalar.addi arg0 c12_i32
  let c0_i32 : BitVec 32 := 0#32
  let c0_i32_0 : BitVec 32 := 0#32
  let c0_i32_1 : BitVec 32 := 0#32
  ![v0.toNat, c0_i32.toNat, c0_i32_0.toNat]

def cc0_transform_12 (i : grid0.Coords) : Fin 3 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  let c0_i32_1 : BitVec 32 := 0#32
  ![v0.toNat, c0_i32.toNat, c0_i32_0.toNat]

def cc0_transform_13 (i : grid0.Coords) : Fin 3 → Nat :=
  let arg0 : BitVec 32 := BitVec.ofNat 32 (i 0).val
  let c20_i32 : BitVec 32 := 20#32
  let v0 : BitVec 32 := Scalar.addi arg0 c20_i32
  let c0_i32 : BitVec 32 := 0#32
  let c0_i32_0 : BitVec 32 := 0#32
  let c0_i32_1 : BitVec 32 := 0#32
  ![v0.toNat, c0_i32.toNat, c0_i32_0.toNat]

def cc0_transform_14 (i : grid0.Coords) : Fin 3 → Nat :=
  let arg0 : BitVec 32 := BitVec.ofNat 32 (i 0).val
  let c24_i32 : BitVec 32 := 24#32
  let v0 : BitVec 32 := Scalar.addi arg0 c24_i32
  let c0_i32 : BitVec 32 := 0#32
  let c0_i32_0 : BitVec 32 := 0#32
  let c0_i32_1 : BitVec 32 := 0#32
  ![v0.toNat, c0_i32.toNat, c0_i32_0.toNat]

def cc0_transform_15 (i : grid0.Coords) : Fin 3 → Nat :=
  let arg0 : BitVec 32 := BitVec.ofNat 32 (i 0).val
  let c28_i32 : BitVec 32 := 28#32
  let v0 : BitVec 32 := Scalar.addi arg0 c28_i32
  let c0_i32 : BitVec 32 := 0#32
  let c0_i32_0 : BitVec 32 := 0#32
  let c0_i32_1 : BitVec 32 := 0#32
  ![v0.toNat, c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1000 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1000 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1000 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x512 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x512 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x512 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x512 .i32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x512 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1x512 .i32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1x512 .i32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x1x512 .i32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== ReferenceIdeal.lean ====
abbrev S16384x1000 : Shape := ⟨2, ![16384, 1000]⟩
abbrev S16384 : Shape := ⟨1, ![16384]⟩
abbrev S_ : Shape := ⟨0, ![]⟩
abbrev S16384x1 : Shape := ⟨2, ![16384, 1]⟩
abbrev S16384x2 : Shape := ⟨2, ![16384, 2]⟩

abbrev nBuf : Space → Nat
  | .hbm => 45
  | .vmem => 0
  | .smem => 0
  | _ => 0

abbrev bufTy : (tb : Table) → Fin (tcTables nBuf tb) → BufTy
  | .hbm, ⟨0, _⟩ => ⟨S16384x1000, .f32⟩
  | .hbm, ⟨1, _⟩ => ⟨S16384, .i32⟩
  | .hbm, ⟨2, _⟩ => ⟨S_, .f32⟩
  | .hbm, ⟨3, _⟩ => ⟨S16384x1000, .f32⟩
  | .hbm, ⟨4, _⟩ => ⟨S16384, .i32⟩
  | .hbm, ⟨5, _⟩ => ⟨S_, .i32⟩
  | .hbm, ⟨6, _⟩ => ⟨S16384, .i32⟩
  | .hbm, ⟨7, _⟩ => ⟨S16384, .i1⟩
  | .hbm, ⟨8, _⟩ => ⟨S_, .i32⟩
  | .hbm, ⟨9, _⟩ => ⟨S16384, .i32⟩
  | .hbm, ⟨10, _⟩ => ⟨S16384, .i32⟩
  | .hbm, ⟨11, _⟩ => ⟨S16384, .i32⟩
  | .hbm, ⟨12, _⟩ => ⟨S_, .i32⟩
  | .hbm, ⟨13, _⟩ => ⟨S16384, .i32⟩
  | .hbm, ⟨14, _⟩ => ⟨S16384, .i1⟩
  | .hbm, ⟨15, _⟩ => ⟨S_, .i32⟩
  | .hbm, ⟨16, _⟩ => ⟨S16384, .i32⟩
  | .hbm, ⟨17, _⟩ => ⟨S16384, .i32⟩
  | .hbm, ⟨18, _⟩ => ⟨S16384, .i32⟩
  | .hbm, ⟨19, _⟩ => ⟨S16384x1, .i32⟩
  | .hbm, ⟨20, _⟩ => ⟨S16384x1, .i32⟩
  | .hbm, ⟨21, _⟩ => ⟨S16384x2, .i32⟩
  | .hbm, ⟨22, _⟩ => ⟨S_, .f32⟩
  | .hbm, ⟨23, _⟩ => ⟨S16384, .f32⟩
  | .hbm, ⟨24, _⟩ => ⟨S16384x1000, .f32⟩
  | .hbm, ⟨25, _⟩ => ⟨S_, .f32⟩
  | .hbm, ⟨26, _⟩ => ⟨S16384, .f32⟩
  | .hbm, ⟨27, _⟩ => ⟨S_, .f32⟩
  | .hbm, ⟨28, _⟩ => ⟨S16384, .f32⟩
  | .hbm, ⟨29, _⟩ => ⟨S16384, .f32⟩
  | .hbm, ⟨30, _⟩ => ⟨S16384x1, .f32⟩
  | .hbm, ⟨31, _⟩ => ⟨S16384x1000, .f32⟩
  | .hbm, ⟨32, _⟩ => ⟨S16384x1000, .f32⟩
  | .hbm, ⟨33, _⟩ => ⟨S16384x1000, .f32⟩
  | .hbm, ⟨34, _⟩ => ⟨S_, .f32⟩
  | .hbm, ⟨35, _⟩ => ⟨S16384, .f32⟩
  | .hbm, ⟨36, _⟩ => ⟨S16384x1, .f32⟩
  | .hbm, ⟨37, _⟩ => ⟨S16384x1000, .f32⟩
  | .hbm, ⟨38, _⟩ => ⟨S16384x1000, .f32⟩
  | .hbm, ⟨39, _⟩ => ⟨S16384x1000, .f32⟩
  | .hbm, ⟨40, _⟩ => ⟨S16384x1000, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | _, _ => ⟨S16384x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_cst_8 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== Proof.RowMath.lean ====
/- The mathematics of one row of the loss over the extended reals: what the kernel adds up for a row is one less than
   the sum of the squared differences of the row's one-hot vector and its softmax. -/
module

public import Idealize.ShloMosaic.PureOps.Ideal
public import Idealize.ShloMosaic.PureOps.Ideal.Laws

@[expose] public section

noncomputable section

namespace Cert.Brier

open Idealize.ShloMosaic

/-- What the kernel computes from one row `x` and its class `t`: the sum of the squared exponentials over the square of
    their sum, less twice the class's exponential over that sum. -/
def kernelRow {n : ℕ} (x : Fin n → EReal) (t : Fin n) : EReal :=
  Ideal.div (∑ j, Ideal.exp (x j) * Ideal.exp (x j)) ((∑ j, Ideal.exp (x j)) * ∑ j, Ideal.exp (x j))
    - 2 * Ideal.div (∑ j, if j = t then Ideal.exp (x j) else 0) (∑ j, Ideal.exp (x j))

/-- The softmax of the row `x` at class `j`, taken after `M` is subtracted from every entry. -/
def softmaxAt {n : ℕ} (x : Fin n → EReal) (M : EReal) (j : Fin n) : EReal :=
  Ideal.div (Ideal.exp (x j - M)) (∑ k, Ideal.exp (x k - M))

/-- The reference's one row: the squared differences of the one-hot vector of `t` and the softmax, summed. -/
def referenceRow {n : ℕ} (x : Fin n → EReal) (M : EReal) (t : Fin n) : EReal :=
  ∑ j, ((if j = t then 1 else 0) - softmaxAt x M j) * ((if j = t then 1 else 0) - softmaxAt x M j)

/-- The exponential of an extended real below `⊤`, as a real number. -/
def expReal (x : EReal) : ℝ := (Ideal.exp x).toReal

/-- Below `⊤` the exponential is a real number. -/
theorem exp_eq {x : EReal} (h : x ≠ ⊤) : Ideal.exp x = (expReal x : EReal) := by
  induction x with
  | bot => simp [expReal]
  | coe r => simp [expReal]
  | top => exact absurd rfl h

/-- The exponential is nowhere negative. -/
theorem expReal_nonneg (x : EReal) : 0 ≤ expReal x := by
  induction x with
  | bot => simp [expReal]
  | coe r => simpa [expReal] using (Real.exp_pos r).le
  | top => simp [expReal]

/-- The exponential of a real number is positive. -/
theorem expReal_pos {x : EReal} (h : x ≠ ⊤) (h' : x ≠ ⊥) : 0 < expReal x := by
  induction x with
  | bot => exact absurd rfl h'
  | coe r => simpa [expReal] using Real.exp_pos r
  | top => exact absurd rfl h

/-- Subtracting a real number `m` before the exponential multiplies it by `exp (-m)`. -/
theorem exp_sub_eq {x : EReal} (h : x ≠ ⊤) (m : ℝ) : Ideal.exp (x - m) = ((expReal x * Real.exp (-m) : ℝ) : EReal) := by
  induction x with
  | bot => simp [expReal]
  | coe r =>
    rw [← EReal.coe_sub, Ideal.exp_coe, sub_eq_add_neg, Real.exp_add]
    simp [expReal]
  | top => exact absurd rfl h

/-- A finite sum of real numbers, taken in the extended reals. -/
theorem coe_sum {ι : Type} (s : Finset ι) (f : ι → ℝ) : ∑ i ∈ s, (f i : EReal) = ((∑ i ∈ s, f i : ℝ) : EReal) :=
  (map_sum (⟨⟨(fun r : ℝ => (r : EReal)), EReal.coe_zero⟩, EReal.coe_add⟩ : ℝ →+ EReal) f s).symm

/-- A quotient of real numbers with a nonzero denominator. -/
theorem div_coe_coe (a : ℝ) {b : ℝ} (h : b ≠ 0) : Ideal.div (a : EReal) (b : EReal) = ((a / b : ℝ) : EReal) := by
  rw [Ideal.div_coe h, ← EReal.coe_mul, mul_one_div]

/-- The identity on real numbers: the squared differences of a one-hot vector and the weights `e` normalised, summed. -/
theorem real_row {n : ℕ} (e : Fin n → ℝ) (t : Fin n) (hs : ∑ j, e j ≠ 0) :
    ∑ j, ((if j = t then 1 else 0) - e j / ∑ k, e k) * ((if j = t then 1 else 0) - e j / ∑ k, e k)
      = (∑ j, e j * e j) / ((∑ j, e j) * ∑ j, e j) - 2 * (e t / ∑ j, e j) + 1 := by
  generalize ∑ j, e j = s at hs
  have h : ∀ j, ((if j = t then 1 else 0) - e j / s) * ((if j = t then 1 else 0) - e j / s)
      = e j * e j / (s * s) + if j = t then 1 - 2 * (e t / s) else 0 := by
    intro j
    by_cases hj : j = t
    · subst hj; simp only [if_true]; field_simp; ring
    · simp only [if_neg hj]; field_simp; ring
  rw [Finset.sum_congr rfl fun j _ => h j, Finset.sum_add_distrib, ← Finset.sum_div, Finset.sum_ite_eq' Finset.univ t,
    if_pos (Finset.mem_univ t)]
  ring

/-- One row: with every entry below `⊤`, some entry a real number and a real number `m` subtracted in the softmax, what
    the kernel computes is a real number `r`, and the reference's row is `r + 1`. -/
theorem row_eq {n : ℕ} (x : Fin n → EReal) (t : Fin n) (m : ℝ) (htop : ∀ j, x j ≠ ⊤) (hbot : ∃ j, x j ≠ ⊥) :
    ∃ r : ℝ, kernelRow x t = (r : EReal) ∧ referenceRow x m t = ((r + 1 : ℝ) : EReal) := by
  have hs : ∑ j, expReal (x j) ≠ 0 := by
    obtain ⟨j, hj⟩ := hbot
    exact (Finset.sum_pos' (fun i _ => expReal_nonneg (x i)) ⟨j, Finset.mem_univ j, expReal_pos (htop j) hj⟩).ne'
  have hS : ∑ j, Ideal.exp (x j) = ((∑ j, expReal (x j) : ℝ) : EReal) := by
    rw [← coe_sum]; exact Finset.sum_congr rfl fun j _ => exp_eq (htop j)
  have hQ : ∑ j, Ideal.exp (x j) * Ideal.exp (x j) = ((∑ j, expReal (x j) * expReal (x j) : ℝ) : EReal) := by
    rw [← coe_sum]; exact Finset.sum_congr rfl fun j _ => by rw [exp_eq (htop j), EReal.coe_mul]
  have hE : (∑ j, if j = t then Ideal.exp (x j) else 0) = (expReal (x t) : EReal) := by
    rw [Finset.sum_ite_eq' Finset.univ t, if_pos (Finset.mem_univ t), exp_eq (htop t)]
  have hp : ∀ j, softmaxAt x m j = ((expReal (x j) / ∑ k, expReal (x k) : ℝ) : EReal) := by
    intro j
    have hd : Real.exp (-m) ≠ 0 := (Real.exp_pos _).ne'
    have hD : ∑ k, Ideal.exp (x k - m) = (((∑ k, expReal (x k)) * Real.exp (-m) : ℝ) : EReal) := by
      rw [Finset.sum_mul, ← coe_sum]; exact Finset.sum_congr rfl fun k _ => exp_sub_eq (htop k) m
    unfold softmaxAt
    rw [hD, exp_sub_eq (htop j), div_coe_coe _ (mul_ne_zero hs hd), mul_div_mul_right _ _ hd]
  refine ⟨(∑ j, expReal (x j) * expReal (x j)) / ((∑ j, expReal (x j)) * ∑ j, expReal (x j))
    - 2 * (expReal (x t) / ∑ j, expReal (x j)), ?_, ?_⟩
  · unfold kernelRow
    rw [hQ, hS, hE, ← EReal.coe_mul, div_coe_coe _ (mul_ne_zero hs hs), div_coe_coe _ hs,
      show (2 : EReal) = ((2 : ℝ) : EReal) from rfl, ← EReal.coe_mul, ← EReal.coe_sub]
  · unfold referenceRow
    rw [← real_row (fun j => expReal (x j)) t hs, ← coe_sum]
    refine Finset.sum_congr rfl fun j _ => ?_
    rw [hp j, show (if j = t then (1 : EReal) else 0) = ((if j = t then 1 else 0 : ℝ) : EReal) by split <;> rfl,
      ← EReal.coe_sub, ← EReal.coe_mul]

/-- All rows: a mean of the reference's rows over `N` of them is the mean of the kernel's rows plus one. -/
theorem mean_eq {ι : Type} [Fintype ι] (k r : ι → EReal) (N : ℝ) (hN : N ≠ 0) (hcard : (Fintype.card ι : ℝ) = N)
    (h : ∀ i, ∃ a : ℝ, k i = (a : EReal) ∧ r i = ((a + 1 : ℝ) : EReal)) :
    Ideal.div (∑ i, k i) (N : EReal) + 1 = Ideal.div (∑ i, r i) (N : EReal) := by
  choose a hk hr using h
  rw [Finset.sum_congr rfl fun i _ => hk i, Finset.sum_congr rfl fun i _ => hr i, coe_sum, coe_sum, div_coe_coe _ hN,
    div_coe_coe _ hN, show (1 : EReal) = ((1 : ℝ) : EReal) from rfl, ← EReal.coe_add, Finset.sum_add_distrib]
  congr 1
  rw [Finset.sum_const, Finset.card_univ, nsmul_eq_mul, mul_one, hcard]
  field_simp

/-! ## The constants -/

/-- The pattern of 2. -/
theorem bits_two : Ideal.ofBits .f32 0x40000000#32 = 2 := by
  rw [show (2 : EReal) = ((2 : ℝ) : EReal) from rfl]
  simp [Ideal.ofBits, Ideal.ieee, -EReal.coe_mul]; norm_num

/-- The pattern of 16384, the number of rows. -/
theorem bits_rows : Ideal.ofBits .f32 0x46800000#32 = ((16384 : ℝ) : EReal) := by
  simp [Ideal.ofBits, Ideal.ieee, -EReal.coe_mul]; norm_num

/-- The pattern of minus infinity. -/
theorem bits_bot : Ideal.ofBits .f32 0xFF800000#32 = ⊥ := by simp [Ideal.ofBits, Ideal.ieee]

/-- The pattern of infinity. -/
theorem bits_top : Ideal.ofBits .f32 0x7F800000#32 = ⊤ := by simp [Ideal.ofBits, Ideal.ieee]

end Cert.Brier

end
-- ==== Proof.BlockTerm.lean ====
/- What the body computes at one grid point: each of its eight input streams gives one number by the same function of
   the stream's block of rows and its block of classes, and the body adds the eight numbers to every lane of the output. -/
module

public import proofs.«01_k».proof.Proof.RowMath
public import proofs.«01_k».proof.Proof.Gen.KernelIdeal.Skeleton
public import Idealize.ShloMosaic.Lib.Pointwise
public import Idealize.ShloMosaic.Lib.IdealHost

@[expose] public section

noncomputable section

namespace Cert.KernelIdeal.Value

open Cert.KernelIdeal Cert.KernelIdeal.Gen Idealize.ShloMosaic

/-- A stream's number, from its block of rows `x` and its block of classes `t`: the first stream's, as printed. -/
abbrev term {F : FTy → Type} [FloatOps F] (x : Vec F S512x1000 .f32) (t : Vec F S1x1x512 .i32) : F .f32 := k0_pay1 x t

/-- The eight streams' numbers added up, first to last. -/
def total {F : FTy → Type} [FloatOps F] (x : Fin 8 → Vec F S512x1000 .f32) (t : Fin 8 → Vec F S1x1x512 .i32) : F .f32 :=
  Scalar.addf (Scalar.addf (Scalar.addf (Scalar.addf (Scalar.addf (Scalar.addf (Scalar.addf
    (term (x 0) (t 0)) (term (x 1) (t 1))) (term (x 2) (t 2))) (term (x 3) (t 3))) (term (x 4) (t 4)))
    (term (x 5) (t 5))) (term (x 6) (t 6))) (term (x 7) (t 7))

/-- The body's whole arithmetic at one point, from the eight blocks of rows, the eight blocks of classes and what the
    output's buffer holds: the total is added to every lane. -/
theorem body_eq {F : FTy → Type} [FloatOps F] (x : Fin 8 → Vec F S512x1000 .f32) (t : Fin 8 → Vec F S1x1x512 .i32) (v : Vec F S1x128 .f32) :
    k0_pay20 (k0_pay13 (k0_pay12 (k0_pay7 (k0_pay1 (x 0) (t 0)) (k0_pay3 (x 1)) (k0_pay4 (x 1)) (k0_pay5 (x 1) (t 1))
        (k0_pay6 (x 1)) (x 2) (t 2)) (k0_pay8 (t 3)) (k0_pay9 (x 3)) (k0_pay10 (x 3)) (k0_pay11 (x 3)) (x 4) (t 4)) (x 5) (t 5))
      (k0_pay15 (x 6)) (k0_pay16 (x 6)) (k0_pay17 (x 6) (t 6)) (k0_pay18 (x 6)) (x 7) (t 7) v
      = addf v (broadcast S1x128 (total x t)) := by
  unfold k0_pay20
  simp only [shapeCast_self]
  rfl

/-- Choosing by equality of two class words below 1000 is choosing by equality of the classes. -/
theorem select_class {α : Type} (j c : Fin 1000) (a b : α) :
    Scalar.select (IntOp.cmpi .eq (BitVec.ofNat 32 j) (BitVec.ofNat 32 c)) a b = if j = c then a else b := by
  by_cases h : j = c
  · subst h; rw [IntOp.cmpi_eq_self, if_pos rfl]; rfl
  · rw [if_neg h]
    have hne : BitVec.ofNat 32 j.val ≠ BitVec.ofNat 32 c.val := fun e => h (Fin.ext (by
      have := congrArg BitVec.toNat e
      have := j.isLt
      have := c.isLt
      simp only [BitVec.toNat_ofNat] at *
      omega))
    have hb : (BitVec.ofNat 32 j.val == BitVec.ofNat 32 c.val) = false := beq_eq_false_iff_ne.mpr hne
    show (if BitVec.ofBool (BitVec.ofNat 32 j.val == BitVec.ofNat 32 c.val) = 1#1 then a else b) = b
    rw [hb]
    rfl

set_option maxRecDepth 16384 in
/-- A stream's number over the extended reals is the sum over the block's rows of what the kernel computes from one
    row, when every class of the block is below 1000. -/
theorem term_eq (x : Vec Ideal S512x1000 .f32) (t : Vec Ideal S1x1x512 .i32) (c : Fin 512 → Fin 1000)
    (hc : ∀ r, t (ix3 0 0 r) = BitVec.ofNat 32 (c r)) :
    term x t = ∑ r : Fin 512, Brier.kernelRow (fun j => x (ix2 r j)) (c r) := by
  unfold term k0_pay1
  pointwise
  refine Finset.sum_congr rfl fun r _ => ?_
  unfold Brier.kernelRow
  rw [Brier.bits_two]
  refine congrArg (fun y => _ - 2 * Ideal.div y _) (Finset.sum_congr rfl fun j _ => ?_)
  rw [hc r, select_class]

/-- The eight numbers of `total` over the extended reals, when every class is below 1000: the sum over the streams and
    over their blocks' rows. -/
theorem total_eq (x : Fin 8 → Vec Ideal S512x1000 .f32) (t : Fin 8 → Vec Ideal S1x1x512 .i32) (c : Fin 8 → Fin 512 → Fin 1000)
    (hc : ∀ k r, t k (ix3 0 0 r) = BitVec.ofNat 32 (c k r)) :
    total x t = ∑ k : Fin 8, ∑ r : Fin 512, Brier.kernelRow (fun j => x k (ix2 r j)) (c k r) := by
  rw [Fin.sum_univ_eight]
  simp only [← term_eq (x _) (t _) (c _) (hc _)]
  rfl

end Cert.KernelIdeal.Value

end
-- ==== Proof.PointValue.lean ====
/- What the output's buffer holds after each grid point: the numbers of the points so far, added up from zero. -/
module

public import proofs.«01_k».proof.Proof.BlockTerm
public import proofs.«01_k».proof.Proof.Gen.KernelIdeal.Frame
public import Idealize.ShloMosaic.Lib.Pipeline.Value
public import Idealize.ShloMosaic.Lib.Tactic

@[expose] public section

noncomputable section

namespace Cert.KernelIdeal.Value

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- The block of rows that stream `k` reads at point `t`. -/
def rowsIn (c : Dev nD) (t : Fin cfg0.N) : Fin 8 → Vec F S512x1000 .f32
  | 0 => iblk m c 0 t | 1 => iblk m c 1 t | 2 => iblk m c 2 t | 3 => iblk m c 3 t
  | 4 => iblk m c 4 t | 5 => iblk m c 5 t | 6 => iblk m c 6 t | 7 => iblk m c 7 t

/-- The block of classes that stream `k` reads at point `t`. -/
def classesIn (c : Dev nD) (t : Fin cfg0.N) : Fin 8 → Vec F S1x1x512 .i32
  | 0 => iblk m c 8 t | 1 => iblk m c 9 t | 2 => iblk m c 10 t | 3 => iblk m c 11 t
  | 4 => iblk m c 12 t | 5 => iblk m c 13 t | 6 => iblk m c 14 t | 7 => iblk m c 15 t

/-- The number the body adds at point `t`. -/
abbrev added (c : Dev nD) (t : Fin cfg0.N) : F .f32 := total (rowsIn m c t) (classesIn m c t)

theorem zeros2 : (![0, 0] : Fin 2 → Nat) = fun _ => 0 := funext fun a => by fin_cases a <;> rfl

theorem zeros3 : (![0, 0, 0] : Fin 3 → Nat) = fun _ => 0 := funext fun a => by fin_cases a <;> rfl

/-- After a point that is not the first, the output's buffer holds what the point before left, plus the point's number. -/
theorem outsAt_later (c : Dev nD) (t : Fin cfg0.N) (h0 : ¬t.val % 4 = 0) :
    outsAt0 m c t.val t.isLt = addf (outsAt0 m c (t.val - 1) (Nat.lt_of_le_of_lt (Nat.sub_le _ _) t.isLt)) (broadcast S1x128 (added m c t)) := by
  rw [outsAt0_B m c t h0]
  unfold out0_B_16
  rw [View.read_writes_eq_canon _ _ _ fun _ => cover0_B_16 ..]
  unfold kernelRun0_B
  dsimp only
  sl_unfold_words
  rw [View.canon_unit_zero zeros2]
  simp only [View.readAt_eq_ld, Memref.IsWhole.read_unread, hs0_0 t, hs0_1 t, hs0_2 t, hs0_3 t, hs0_4 t, hs0_5 t, hs0_6 t,
    hs0_7 t, hs0_8 t, hs0_9 t, hs0_10 t, hs0_11 t, hs0_12 t, hs0_13 t, hs0_14 t, hs0_15 t, hs0_16 t,
    View.ld_unit_zero (S := S1x128) zeros2, View.ld_unit_zero (S := S512x1000) zeros2, View.ld_unit_zero (S := S1x1x512) zeros3]
  exact body_eq (rowsIn m c t) (classesIn m c t) _

/-- After the first point the output's buffer holds the point's number added to zero. -/
theorem outsAt_first (c : Dev nD) (t : Fin cfg0.N) (h0 : t.val % 4 = 0) :
    outsAt0 m c t.val t.isLt = addf (broadcast S1x128 (Scalar.ofBits .f32 0x00000000#32)) (broadcast S1x128 (added m c t)) := by
  rw [outsAt0_A m c t h0]
  unfold out0_A_16
  rw [View.read_writes_eq_canon _ _ _ fun _ => cover0_A_16 ..]
  unfold kernelRun0_A
  dsimp only
  sl_unfold_words
  rw [View.canon_cons_unit_zero (S := S1x128) zeros2, View.readCov_unit_zero (S := S1x128) _ zeros2]
  simp only [View.readAt_eq_ld, Memref.IsWhole.read_unread, hs0_0 t, hs0_1 t, hs0_2 t, hs0_3 t, hs0_4 t, hs0_5 t, hs0_6 t,
    hs0_7 t, hs0_8 t, hs0_9 t, hs0_10 t, hs0_11 t, hs0_12 t, hs0_13 t, hs0_14 t, hs0_15 t, hs0_16 t,
    View.ld_unit_zero (S := S1x128) zeros2, View.ld_unit_zero (S := S512x1000) zeros2, View.ld_unit_zero (S := S1x1x512) zeros3]
  exact body_eq (rowsIn m c t) (classesIn m c t) _

/-- Over the extended reals every lane of the output's buffer holds, after point `n`, the sum of the numbers of the
    points up to `n`. -/
theorem outsAt_eq (m : (ℓ : Loc nD τ sig) → Buf (Elt Ideal) ℓ) (c : Dev nD) : ∀ (n : ℕ) (h : n < cfg0.N) (j : S1x128.Idx),
    outsAt0 m c n h j = ∑ i : Fin (n + 1), added m c ⟨i.val, Nat.lt_of_lt_of_le i.isLt h⟩
  | 0, h, j => by
    rw [outsAt_first m c ⟨0, h⟩ rfl, Fin.sum_univ_one]
    exact (congrArg (· + added m c ⟨0, h⟩) Ideal.ofBits_zero_f32).trans (zero_add _)
  | n + 1, h, j => by
    have hN : cfg0.N = 4 := N_0
    rw [outsAt_later m c ⟨n + 1, h⟩ (by dsimp only; omega), Fin.sum_univ_castSucc]
    exact congrArg (· + added m c ⟨n + 1, h⟩) (outsAt_eq m c n (Nat.lt_of_succ_lt h) j)

end Cert.KernelIdeal.Value

end
-- ==== Proof.KernelValue.lean ====
/- What the kernel's program returns: the rows' numbers summed over all rows, divided by their number, plus one. -/
module

public import proofs.«01_k».proof.Proof.PointValue
public import Idealize.ShloMosaic.Lib.StableHlo.Run

@[expose] public section

noncomputable section

namespace Cert.KernelIdeal.Value

open Cert.KernelIdeal Cert.KernelIdeal.Gen Idealize.ShloMosaic Idealize.ShloMosaic.TcCoe Idealize.SL.Sem Idealize.ShloMosaic.StableHlo
open Idealize.ShloMosaic.Pipeline (Dat)

variable {F : FTy → Type} [FloatOps F]
variable (m : (ℓ : Loc nD τ sig) → Buf (Elt F) ℓ) (ρ : Dev nD → PrngReg)

/-! ## The blocks the streams read -/

/-- The row of the logits that is row `r` of the block stream `k` reads at point `t`. -/
def row (t : Fin cfg0.N) (k : Fin 8) (r : Fin 512) : Fin 16384 :=
  ⟨(t.val + 4 * k.val) * 512 + r.val, by
    have ht : t.val < 4 := Nat.lt_of_lt_of_eq t.isLt N_0
    omega⟩

/-- The block index of the rows of stream `k` at point `t`. -/
def rowsAt (t : Fin cfg0.N) : Fin 8 → Fin 2 → Nat
  | 0 => win0_0.index t | 1 => win0_1.index t | 2 => win0_2.index t | 3 => win0_3.index t
  | 4 => win0_4.index t | 5 => win0_5.index t | 6 => win0_6.index t | 7 => win0_7.index t

/-- The block index of the classes of stream `k` at point `t`. -/
def classesAt (t : Fin cfg0.N) : Fin 8 → Fin 3 → Nat
  | 0 => win0_8.index t | 1 => win0_9.index t | 2 => win0_10.index t | 3 => win0_11.index t
  | 4 => win0_12.index t | 5 => win0_13.index t | 6 => win0_14.index t | 7 => win0_15.index t

theorem rowsAt_eq : ∀ (t : Fin cfg0.N) (k : Fin 8), rowsAt t k = ![t.val + 4 * k.val, 0] := by decide +kernel

theorem classesAt_eq : ∀ (t : Fin cfg0.N) (k : Fin 8), classesAt t k = ![t.val + 4 * k.val, 0, 0] := by decide +kernel

/-- Entry `(r, j)` of the block of rows of stream `k` at point `t`, in the logits. -/
theorem rowsIn_apply (c : Dev nD) (t : Fin cfg0.N) (k : Fin 8) (r : Fin 512) (j : Fin 1000) :
    rowsIn m c t k (ix2 r j) = m ((c : Thread nD τ).loc main_arg0) (ix2 (row t k r) j) := by
  rw [← V_main_arg0 m c]
  have h0 : rowsAt t k 0 * 512 + 1 * r.val = (row t k r).val := by
    have h : rowsAt t k 0 = t.val + 4 * k.val := congrFun (rowsAt_eq t k) 0
    simp only [h, row, one_mul]
  have h1 : rowsAt t k 1 * 1000 + 1 * j.val = j.val := by
    have h : rowsAt t k 1 = 0 := congrFun (rowsAt_eq t k) 1
    simp only [h, zero_mul, one_mul, zero_add]
  generalize row t k r = i at h0 ⊢
  fin_cases k <;>
  exact congrArg (V m c main_arg0) (funext fun a => Fin.ext (match a with | ⟨0, _⟩ => h0 | ⟨1, _⟩ => h1))

/-- Entry `r` of the block of classes of stream `k` at point `t`, in the classes laid out as 32 blocks. -/
theorem classesIn_apply (c : Dev nD) (t : Fin cfg0.N) (k : Fin 8) (r : Fin 512) (b : Fin 32) (hb : b.val = t.val + 4 * k.val) :
    classesIn m c t k (ix3 0 0 r) = V m c main_v0 (ix3 b 0 r) := by
  have h0 : classesAt t k 0 * 1 + 1 * 0 = b.val := by
    have h : classesAt t k 0 = t.val + 4 * k.val := congrFun (classesAt_eq t k) 0
    simp only [h, hb, mul_one, mul_zero, add_zero]
  have h1 : classesAt t k 1 * 1 + 1 * 0 = 0 := by
    have h : classesAt t k 1 = 0 := congrFun (classesAt_eq t k) 1
    simp only [h, mul_one, mul_zero, add_zero]
  have h2 : classesAt t k 2 * 512 + 1 * r.val = r.val := by
    have h : classesAt t k 2 = 0 := congrFun (classesAt_eq t k) 2
    simp only [h, zero_mul, one_mul, zero_add]
  fin_cases k <;>
  exact congrArg (V m c main_v0) (funext fun a => Fin.ext (match a with | ⟨0, _⟩ => h0 | ⟨1, _⟩ => h1 | ⟨2, _⟩ => h2))

/-- The 32 blocks of classes the region finds are the classes reshaped. -/
theorem V_main_v0 (c : Dev nD) :
    V m c main_v0 = (shapeCast S32x1x512 (m ((c : Thread nD τ).loc main_arg1)) shapeCasts_S16384_S32x1x512 : IVec S32x1x512 32) := by
  unfold V V0
  simp only [List.flatten_cons, List.flatten_nil, List.append_nil]
  after_results
  rfl

/-- What the lines after the region make of the output array: its first lane over the number of rows, plus one. -/
theorem tail_eq (c : Dev nD) : Pipeline.afterTail₀ cfgs (dats m) 0 (V0 m) [hostOps1] c main_v5
    = addf (Host.divf (shapeCast S_ (extractStridedSlice S1x1 ![0, 0] ((dats m 0 c).arrAt 16 cfg0.N : FVec F S1x128 .f32) slices_S1x128_S1x1_0_0) shapeCasts_S1x1_S_)
        (constant S_ .f32 0x46800000#32)) (constant S_ .f32 0x3F800000#32) := by
  unfold Pipeline.afterTail₀
  simp only [List.flatten_cons, List.flatten_nil, List.append_nil]
  after_results
  rw [Pipeline.withArrays_arr_shared (cfgs 0).spec c (V0 m c) (fun w => (dats m 0 c).arrAt w (cfgs 0).N)
    ((dats m 0 c).arrAt_sharedIn sharedIn0 (V0 m c) (A_eq m c) _) 16]
  rfl

/-! ## The result over the extended reals -/

section AtIdeal

variable (m : (ℓ : Loc nD τ sig) → Buf (Elt Ideal) ℓ)

/-- Point `t` of the grid. -/
def point (t : Fin 4) : Fin cfg0.N := ⟨t.val, Nat.lt_of_lt_of_eq t.isLt N_0.symm⟩

/-- The sum of the numbers of the four points. -/
def sumAll (c : Dev nD) : EReal := ∑ t : Fin 4, added m c (point t)

/-- The output array once every point has run: every lane holds the sum of the points' numbers. -/
def lanes (c : Dev nD) : FVec Ideal S1x128 .f32 := fun _ => sumAll m c

/-- What is written back, after the last point, is that array. -/
theorem flushed_eq (c : Dev nD) (t : Fin cfg0.N) (hf : (cfg0.win 16).flush t = true) :
    (dats m 0 c).flushed 16 t = ((cfg0.win 16).blk t).view.read (Elt Ideal) (lanes m c) := by
  have h3 : t.val = 3 := by
    have := (flush0_16 t).mp hf
    have := Nat.lt_of_lt_of_eq t.isLt N_0
    omega
  obtain rfl : t = t0_3 := Fin.ext h3
  show (cfg0.win 16).cut (grid0.coords t0_3) ((dats m 0 c).after 16 t0_3) = _
  rw [after0_16]
  have hz : (fun a => win0_16.index t0_3 a * main_v1.ty.shape.size a) = fun _ => 0 := funext fun a => by fin_cases a <;> decide
  have hl : outsAt0 m c t0_3.val t0_3.isLt = lanes m c := funext fun j => outsAt_eq m c 3 t0_3.isLt j
  rw [hl]
  exact (Memref.read_access_unit_zero (Elt Ideal) main_v1 hz (fun a => by rw [congrFun hz a]; simp) (lanes m c)).symm

/-- So the output array ends holding the sum in every lane. -/
theorem final_eq (c : Dev nD) : (dats m 0 c).arrAt 16 cfg0.N = lanes m c :=
  (dats m 0 c).arrAt_eq_of_cover 16 (lanes m c) (flushed_eq m c) fun i =>
    ⟨t0_3, (flush0_16 t0_3).mpr rfl, by
      show i ∈ ((View.whole main_v1).slice (win0_16.rect t0_3)).set
      rw [View.set_slice_whole, Rect.mem_set_unit]
      intro a
      have h0 : win0_16.index t0_3 a * win0_16.size a = 0 := by revert a; decide +kernel
      have h1 : win0_16.xsize (grid0.coords t0_3) a = main_v1.ty.shape.size a := by revert a; decide +kernel
      show win0_16.index t0_3 a * win0_16.size a ≤ (i a : Nat) ∧ (i a : Nat) < win0_16.index t0_3 a * win0_16.size a + win0_16.xsize (grid0.coords t0_3) a
      rw [h0, h1, zero_add]
      exact ⟨Nat.zero_le _, (i a).isLt⟩⟩

/-- A point, a stream and a row of a block name a row of the logits, each row exactly once. -/
def rowEquiv : Fin 4 × Fin 8 × Fin 512 ≃ Fin 16384 where
  toFun p := row (point p.1) p.2.1 p.2.2
  invFun i := (⟨i.val / 512 % 4, by omega⟩, ⟨i.val / 2048, by omega⟩, ⟨i.val % 512, by omega⟩)
  left_inv := fun ⟨t, k, r⟩ => by
    refine Prod.ext (Fin.ext ?_) (Prod.ext (Fin.ext ?_) (Fin.ext ?_)) <;> dsimp only [row, point] <;> omega
  right_inv i := by
    refine Fin.ext ?_
    dsimp only [row, point]
    omega

/-- Summing over the points, the streams and the rows of a block is summing over all rows. -/
theorem sum_rows (f : Fin 16384 → EReal) : ∑ t : Fin 4, ∑ k : Fin 8, ∑ r : Fin 512, f (row (point t) k r) = ∑ i, f i := by
  rw [← rowEquiv.sum_comp f, Fintype.sum_prod_type]
  refine Finset.sum_congr rfl fun t _ => ?_
  rw [Fintype.sum_prod_type]
  rfl

/-- When every class is in range, the sum is that of the rows' numbers. -/
theorem sumAll_eq (c : Dev nD) (cls : Fin 16384 → Fin 1000)
    (hc : ∀ i, m ((c : Thread nD τ).loc main_arg1) (ix1 i) = BitVec.ofNat 32 (cls i).val) :
    sumAll m c = ∑ i, Brier.kernelRow (fun j => m ((c : Thread nD τ).loc main_arg0) (ix2 i j)) (cls i) := by
  rw [← sum_rows]
  refine Finset.sum_congr rfl fun t _ => ?_
  have hcls : ∀ (k : Fin 8) (r : Fin 512), classesIn m c (point t) k (ix3 0 0 r)
      = BitVec.ofNat 32 (cls (row (point t) k r)).val := fun k r => by
    rw [classesIn_apply m c (point t) k r ⟨t.val + 4 * k.val, by omega⟩ rfl, V_main_v0, ← hc]
    exact shapeCast_apply (s := S16384) _ _ _ _ (by rw [Shape.rowMajor_val_one, Shape.rowMajor_val_three]; show (t.val + 4 * k.val) * 512 + r.val = _; dsimp; omega)
  rw [added, total_eq _ _ (fun k r => cls (row _ k r)) hcls]
  simp only [rowsIn_apply]

/-- The program's result: the sum of the rows' numbers over the number of rows, plus one. -/
def result (c : Dev nD) : FVec Ideal S_ .f32 := fun _ => Ideal.div (sumAll m c) ((16384 : ℝ) : EReal) + 1

/-- The lines after the region leave the result in the returned buffer. -/
theorem tail_result (c : Dev nD) : Pipeline.afterTail₀ cfgs (dats m) 0 (V0 m) [hostOps1] c main_v5 = result m c := by
  rw [tail_eq, final_eq]
  funext i
  show Ideal.div (sumAll m c) (Ideal.ofBits .f32 0x46800000#32) + Ideal.ofBits .f32 0x3F800000#32 = _
  rw [Brier.bits_rows, Ideal.ofBits_one_f32]
  rfl

/-- The run: the returned buffer ends at the result, the arguments are unchanged. -/
theorem run (ρ : Dev nD → PrngReg) : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(((h.2 c).2 main_v5 (Pipeline.mem_restRefs_of main_v5 (by decide) (by decide))).trans (tail_result m c)), h.1 c⟩)
    (θ_run_and (unchanged m ρ) (run_main m ρ))

end AtIdeal

end Cert.KernelIdeal.Value

end
-- ==== Proof.RefValue.lean ====
/- What the reference returns: per row the squared distance of the one-hot row from the softmax row, summed over all
   rows and divided by their number. -/
module

public import proofs.«01_k».proof.Proof.RowMath
public import proofs.«01_k».proof.Proof.Gen.ReferenceIdeal.Read
public import Idealize.ShloMosaic.Lib.Pointwise
public import Idealize.ShloMosaic.Lib.IdealHost
public import Idealize.ShloMosaic.Lib.Routing.OpsPair
public import Idealize.ShloMosaic.Lib.Routing.OpsSet

@[expose] public section

noncomputable section

namespace Cert.ReferenceIdeal.Value

open Cert.ReferenceIdeal Cert.ReferenceIdeal.Gen Cert.ReferenceIdeal.Read Idealize.ShloMosaic

variable (x0 : FVec Ideal S16384x1000 .f32) (x1 : IVec S16384 32) (cls : Fin 16384 → Fin 1000)

/-- A word below half the range, read signed, is itself. -/
theorem toInt_small (n : ℕ) (h : n < 2 ^ 31) : (BitVec.ofNat 32 n).toInt = n := by
  rw [BitVec.toInt_eq_toNat_of_lt (by rw [BitVec.toNat_ofNat]; omega), BitVec.toNat_ofNat, Nat.mod_eq_of_lt (by omega)]

/-- Wrapping a negative index leaves a small word as it is. -/
theorem wrap_small (n : ℕ) (h : n < 2 ^ 31) (a : BitVec 32) :
    Scalar.select (IntOp.cmpi .slt (BitVec.ofNat 32 n) 0#32) a (BitVec.ofNat 32 n) = BitVec.ofNat 32 n :=
  Routing.wrap_of_lt _ _ (by rw [BitVec.toNat_ofNat, Nat.mod_eq_of_lt (by omega)]; exact h)

/-- The first index word of update `i` is `i`. -/
theorem pairs_row (i : Fin 16384) : val_main_v14 (F := Ideal) x1 (ix2 i 0) = BitVec.ofNat 32 i.val := by
  have h : val_main_v14 (F := Ideal) x1 (ix2 i 0) = val_main_v12 (F := Ideal) (ix2 i 0) := by
    unfold val_main_v14
    pointwise
  rw [h, val_main_v12_apply, val_main_v6_apply, val_main_v3_apply, val_main_v1_apply, val_main_v2_apply, val_main_c_apply]
  exact wrap_small _ (by have := i.isLt; dsimp; omega) _

/-- The second index word of update `i` is the row's class. -/
theorem pairs_class (hc : ∀ i, x1 (ix1 i) = BitVec.ofNat 32 (cls i).val) (i : Fin 16384) :
    val_main_v14 (F := Ideal) x1 (ix2 i 1) = BitVec.ofNat 32 (cls i).val := by
  have h : val_main_v14 (F := Ideal) x1 (ix2 i 1) = val_main_v13 (F := Ideal) x1 (ix2 i 0) := by
    unfold val_main_v14
    pointwise
  have hi : idx_main_v13 (ix2 i 0) = ix1 i := funext fun a => Fin.ext (match a with | ⟨0, _⟩ => rfl)
  rw [h, val_main_v13_apply, val_main_v11_apply, val_main_v8_apply, val_main_v7_apply, val_main_c_1_apply, hi, hc]
  exact wrap_small _ (by have := (cls i).isLt; omega) _

/-- Update `i` of the scatter writes the entry its two words name. -/
theorem lands (i : Fin 16384) (idx : IVec S16384x2 32) (r : Fin 16384) (j : Fin 1000) :
    scatter_S16384x1000_S16384x2_S16384_n_01_01_1.resultIdx? (ix1 i) idx = some (ix2 r j)
      ↔ (idx (ix2 i 0)).toInt = r.val ∧ (idx (ix2 i 1)).toInt = j.val := by
  have hs : ∀ q : Fin 2, scatter_S16384x1000_S16384x2_S16384_n_01_01_1.start (ix1 i) idx q = (idx (ix2 i q)).toInt := fun q => by
    unfold ScatterDims.start
    rw [dif_pos (by revert q; decide)]
    refine congrArg (fun a => (idx a).toInt) (funext fun a => Fin.ext ?_)
    fin_cases q <;> fin_cases a <;> rfl
  have hw : ∀ q : Fin 2, scatter_S16384x1000_S16384x2_S16384_n_01_01_1.window (ix1 i) q = 0 := fun q => by
    unfold ScatterDims.window
    rw [dif_neg (by revert q; decide)]
  rw [Routing.resultIdx?_eq_some]
  constructor
  · intro h
    have h0 := h 0
    have h1 := h 1
    rw [hs, hw] at h0 h1
    exact ⟨by simpa using h0, by simpa using h1⟩
  · rintro ⟨h0, h1⟩ a
    rw [hs, hw]
    match a with
    | ⟨0, _⟩ => simpa using h0
    | ⟨1, _⟩ => simpa using h1

/-- The scattered array is one at each row's class and zero elsewhere. -/
theorem oneHot (hc : ∀ i, x1 (ix1 i) = BitVec.ofNat 32 (cls i).val) (i : Fin 16384) (j : Fin 1000) :
    val_main_v16 (F := Ideal) x1 (ix2 i j) = if j = cls i then 1 else 0 := by
  have hl : ∀ k : Fin 16384, scatter_S16384x1000_S16384x2_S16384_n_01_01_1.resultIdx? (ix1 k) (val_main_v14 (F := Ideal) x1) = some (ix2 i j)
      ↔ k = i ∧ cls k = j := fun k => by
    rw [lands, pairs_row, pairs_class x1 cls hc, toInt_small _ (by have := k.isLt; omega), toInt_small _ (by have := (cls k).isLt; omega),
      Nat.cast_inj, Nat.cast_inj, Fin.val_inj, Fin.val_inj]
  unfold val_main_v16
  split_ifs with h
  · refine Routing.scatter_set_hit _ _ _ _ _ _ (fun k _ => ?_) (ix1 i) ((hl i).2 ⟨rfl, h.symm⟩)
    rw [val_main_v15_apply, val_main_cst_3_apply]
    exact Ideal.ofBits_one_f32
  · rw [Routing.scatter_set_miss, val_main_v0_apply, val_main_cst_apply]
    · exact Ideal.ofBits_zero_f32
    · intro k hk
      have ek : k = ix1 (k 0) := funext fun a => Fin.ext (match a with | ⟨0, _⟩ => rfl)
      rw [ek] at hk
      obtain ⟨h1, h2⟩ := (hl (k 0)).1 hk
      exact h (by rw [← h2, h1])

/-- What is subtracted from row `i` before the exponential. -/
def shift (i : Fin 16384) : EReal := val_main_v19 (F := Ideal) x0 (ix1 i)

/-- The shifted exponential of an entry. -/
theorem expAt (i : Fin 16384) (j : Fin 1000) :
    val_main_v23 (F := Ideal) x0 (ix2 i j) = Ideal.exp (x0 (ix2 i j) - shift x0 i) := by
  have h : val_main_v21 (F := Ideal) x0 (ix2 i j) = shift x0 i := by
    rw [val_main_v21_apply, val_main_v20_apply]
    exact congrArg (val_main_v19 (F := Ideal) x0) (funext fun a => Fin.ext (match a with | ⟨0, _⟩ => rfl))
  rw [val_main_v23_apply, val_main_v22_apply, h]
  rfl

/-- The softmax of an entry. -/
theorem softmax (i : Fin 16384) (j : Fin 1000) :
    val_main_v27 (F := Ideal) x0 (ix2 i j) = Brier.softmaxAt (fun k => x0 (ix2 i k)) (shift x0 i) j := by
  have h : val_main_v26 (F := Ideal) x0 (ix2 i j) = ∑ k, Ideal.exp (x0 (ix2 i k) - shift x0 i) := by
    rw [val_main_v26_apply, val_main_v25_apply, val_main_v24_apply, val_main_cst_6_apply]
    refine (congrArg (· + _) Ideal.ofBits_zero_f32).trans ((zero_add _).trans (Finset.sum_congr rfl fun k _ => ?_))
    rw [← expAt]
    exact congrArg (val_main_v23 (F := Ideal) x0) (funext fun a => Fin.ext (match a with | ⟨0, _⟩ => rfl | ⟨1, _⟩ => rfl))
  rw [val_main_v27_apply, h, expAt]
  rfl

/-- The reference's result: the rows' numbers summed over all rows and divided by the number of rows. -/
theorem value_eq (hc : ∀ i, x1 (ix1 i) = BitVec.ofNat 32 (cls i).val) (i : S_.Idx) :
    val_main_v31 (F := Ideal) x0 x1 i
      = Ideal.div (∑ r : Fin 16384, Brier.referenceRow (fun j => x0 (ix2 r j)) (shift x0 r) (cls r)) ((16384 : ℝ) : EReal) := by
  have hs : ∑ j : S16384x1000.Idx, val_main_v29 (F := Ideal) x0 x1 j
      = ∑ r : Fin 16384, Brier.referenceRow (fun j => x0 (ix2 r j)) (shift x0 r) (cls r) := by
    rw [sum_idx2]
    refine Finset.sum_congr rfl fun r _ => Finset.sum_congr rfl fun j _ => ?_
    rw [val_main_v29_apply, val_main_v28_apply, oneHot x1 cls hc, softmax]
    rfl
  have h0 : val_main_v30 (F := Ideal) x0 x1 i = ∑ r : Fin 16384, Brier.referenceRow (fun j => x0 (ix2 r j)) (shift x0 r) (cls r) := by
    rw [val_main_v30_apply, hs, val_main_cst_7_apply]
    exact (congrArg (· + _) Ideal.ofBits_zero_f32).trans (zero_add _)
  rw [val_main_v31_apply, h0, val_main_cst_8_apply]
  exact congrArg (Ideal.div _) Brier.bits_rows

end Cert.ReferenceIdeal.Value

end
-- ==== Proof.PreFacts.lean ====
/- What the precondition gives for one row: its class is in range, its greatest entry is a finite number. -/
module

public import proofs.«01_k».proof.Proof.RefValue
public import proofs.«01_k».proof.Pre_classes_and_finite_tops
public import Idealize.ShloMosaic.Lib.Affine
public import Idealize.ShloMosaic.Lib.WordCmp

@[expose] public section

noncomputable section

namespace Cert.ReferenceIdeal.Value

open Cert.ReferenceIdeal Cert.ReferenceIdeal.Gen Cert.ReferenceIdeal.Read Idealize.ShloMosaic

variable (x0 : FVec Ideal S16384x1000 .f32) (x1 : IVec S16384 32)

/-- The greatest entry of row `i`. -/
def rowTop (i : Fin 16384) : EReal := (Finset.univ : Finset (Fin 1000)).fold max ⊥ fun j => x0 (ix2 i j)

/-- The four conditions of the precondition at one entry, for any array `M` in the place of the rows' greatest entries. -/
theorem conditions_at {s : Shape} (x : IVec s 32) (lo hi : IVec s 32) (M B T : FVec Ideal s .f32) (i : s.Idx)
    (h : andi (andi (andi (cmpi .sge x lo) (cmpi .slt x hi)) (cmpf .ogt M B)) (cmpf .olt M T) = fun _ => 1#1) :
    ((lo i).toInt ≤ (x i).toInt ∧ (x i).toInt < (hi i).toInt) ∧ (B i : EReal) < M i ∧ (M i : EReal) < T i := by
  have e : IntOp.andi (IntOp.andi (IntOp.andi (IntOp.cmpi .sge (x i) (lo i)) (IntOp.cmpi .slt (x i) (hi i)))
    (Ideal.cmp .ogt (M i) (B i))) (Ideal.cmp .olt (M i) (T i)) = 1#1 := congrFun h i
  rw [IntOp.andi_eq_one, IntOp.andi_eq_one, IntOp.andi_eq_one, WordCmp.cmpi_sge_eq, WordCmp.cmpi_slt_eq,
    WordCmp.ofBool_decide_eq_one_iff, WordCmp.ofBool_decide_eq_one_iff] at e
  exact ⟨e.1.1, (WordCmp.ofBool_decide_eq_one_iff _).1 e.1.2, (WordCmp.ofBool_decide_eq_one_iff _).1 e.2⟩

/-- The greatest entries the reference and the precondition compute are `rowTop`. -/
theorem reduce_eq (h : S16384x1000.ReducesTo [1] S16384) (hu : 0 < S_.numel) (i : Fin 16384) :
    Host.reduce FloatOps.maximumf x0 (constant (F := Ideal) S_ .f32 0xFF800000#32) h hu (ix1 i) = rowTop x0 i := by
  pointwise
  rw [Brier.bits_bot]
  rfl

/-- The precondition at a row: its class is a number below 1000, its greatest entry lies strictly between the infinities. -/
theorem pre_at [Cert.Pre_classes_and_finite_tops.Facts]
    (h : Cert.Pre_classes_and_finite_tops.fn (F := Ideal) x0 x1 = fun _ => 1#1) (i : Fin 16384) :
    (0 ≤ (x1 (ix1 i)).toInt ∧ (x1 (ix1 i)).toInt < 1000) ∧ ⊥ < rowTop x0 i ∧ rowTop x0 i < ⊤ := by
  unfold Cert.Pre_classes_and_finite_tops.fn at h
  obtain ⟨⟨h0, h1⟩, h2, h3⟩ := conditions_at _ _ _ _ _ _ (ix1 i) h
  beta_reduce at h2 h3
  rw [reduce_eq] at h2 h3
  exact ⟨⟨h0, h1⟩, h2.trans_eq' Brier.bits_bot.symm, h3.trans_eq Brier.bits_top⟩

/-- A word that is not negative and below 1000 is the word of a class. -/
theorem class_of (w : BitVec 32) (h : 0 ≤ w.toInt ∧ w.toInt < 1000) : ∃ c : Fin 1000, w = BitVec.ofNat 32 c.val := by
  have hw : w.toNat < 1000 := by
    have := w.isLt
    rw [BitVec.toInt_eq_toNat_cond] at h
    split_ifs at h <;> omega
  exact ⟨⟨w.toNat, hw⟩, ((BitVec.ofNat_toNat 32 w).trans (BitVec.setWidth_eq w)).symm⟩

/-- The reference subtracts the greatest entry. -/
theorem shift_eq (i : Fin 16384) : shift x0 i = rowTop x0 i := by
  unfold shift
  rw [val_main_v19_apply, val_main_v18_apply, val_main_cst_5_apply]
  unfold val_main_v17 val_main_cst_4
  rw [reduce_eq]
  exact (congrArg (max · _) Brier.bits_bot).trans (max_eq_right bot_le)

/-- Under the precondition every row's two numbers, the kernel's and the reference's, are real numbers one apart. -/
theorem rows_eq [Cert.Pre_classes_and_finite_tops.Facts]
    (h : Cert.Pre_classes_and_finite_tops.fn (F := Ideal) x0 x1 = fun _ => 1#1) :
    ∃ cls : Fin 16384 → Fin 1000, (∀ i, x1 (ix1 i) = BitVec.ofNat 32 (cls i).val) ∧
      ∀ i, ∃ r : ℝ, Brier.kernelRow (fun j => x0 (ix2 i j)) (cls i) = r
        ∧ Brier.referenceRow (fun j => x0 (ix2 i j)) (shift x0 i) (cls i) = ((r + 1 : ℝ) : EReal) := by
  choose cls hcls using fun i => class_of _ (pre_at x0 x1 h i).1
  refine ⟨cls, hcls, fun i => ?_⟩
  obtain ⟨hb, ht⟩ := (pre_at x0 x1 h i).2
  rw [shift_eq, ← EReal.coe_toReal ht.ne hb.ne']
  rw [rowTop, Finset.lt_fold_max] at hb
  rw [rowTop, Finset.fold_max_lt] at ht
  obtain ⟨j, _, hj⟩ := hb.resolve_left (lt_irrefl _)
  exact Brier.row_eq _ _ _ (fun j => (ht.2 j (Finset.mem_univ j)).ne) ⟨j, hj.ne'⟩

end Cert.ReferenceIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_classes_and_finite_tops
public import proofs.«01_k».proof.Proof.KernelValue
public import proofs.«01_k».proof.Proof.PreFacts
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference ends with its arguments unchanged and every counter at zero. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1))
        ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m ρ)

/-- Under the precondition the reference's term of the kernel's arguments is the kernel's result. -/
theorem value_eq [Cert.Pre_classes_and_finite_tops.Facts]
    (m : (ℓ : Loc Cert.KernelIdeal.nD Cert.KernelIdeal.τ Cert.KernelIdeal.sig) → Buf (Elt Ideal) ℓ) (c : Dev Cert.KernelIdeal.nD)
    (h : Cert.Pre_classes_and_finite_tops.fn (F := Ideal) (m ((c : Thread Cert.KernelIdeal.nD Cert.KernelIdeal.τ).loc Cert.KernelIdeal.main_arg0))
      (m ((c : Thread Cert.KernelIdeal.nD Cert.KernelIdeal.τ).loc Cert.KernelIdeal.main_arg1)) = fun _ => 1#1) :
    Cert.ReferenceIdeal.Read.val_main_v31 (F := Ideal) (m ((c : Thread Cert.KernelIdeal.nD Cert.KernelIdeal.τ).loc Cert.KernelIdeal.main_arg0))
      (m ((c : Thread Cert.KernelIdeal.nD Cert.KernelIdeal.τ).loc Cert.KernelIdeal.main_arg1)) = Cert.KernelIdeal.Value.result m c := by
  obtain ⟨cls, hc, hrow⟩ := Cert.ReferenceIdeal.Value.rows_eq _ _ h
  funext i
  rw [Cert.ReferenceIdeal.Value.value_eq _ _ cls hc]
  unfold Cert.KernelIdeal.Value.result
  rw [Cert.KernelIdeal.Value.sumAll_eq m c cls hc]
  exact (Cert.Brier.mean_eq _ _ 16384 (by norm_num) (by simp) hrow).symm

/-- The kernel and the reference return the same number under the precondition. -/
theorem algebraic [hPre : Cert.Pre_classes_and_finite_tops.Facts] :
    Cert.algebraic_KernelIdeal_ReferenceIdeal_pre_classes_and_finite_tops
      (hKernelIdeal := Cert.KernelIdeal.Gen.facts) (hReferenceIdeal := Cert.ReferenceIdeal.Gen.facts) := by
  intro m g m' g' hpre hagree
  refine ⟨fun c => Cert.KernelIdeal.Value.result m c, Cert.KernelIdeal.Value.run m g, ?_⟩
  refine (θ_run Cert.ReferenceIdeal.defs _ _).mono (fun _ h c => ⟨(h c).1.trans ?_, (h c).2⟩)
    (Cert.ReferenceIdeal.Value.run (F := Ideal) m' g')
  rw [Cert.ReferenceIdeal.Read.val_main_v31_eq, (hagree c).1, (hagree c).2]
  exact value_eq m c (hpre c)

theorem claim : Cert.Claim :=
  ⟨Cert.Kernel.Gen.facts, Cert.KernelIdeal.Gen.facts, Cert.ReferenceIdeal.Gen.facts, Cert.Pre_classes_and_finite_tops.Gen.facts,
    fun m ρ _ => Cert.Kernel.Gen.frame m ρ, fun m ρ _ => Cert.KernelIdeal.Gen.frame m ρ, fun m ρ _ => Cert.KernelIdeal.Gen.frame m ρ,
    fun m ρ _ => reference_frame m ρ, fun m ρ _ => reference_frame m ρ, trivial,
    algebraic (hPre := Cert.Pre_classes_and_finite_tops.Gen.facts)⟩

end Cert.Proof

end
